-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S2x8192x768 : Shape := ⟨3, ![2, 8192, 768]⟩
abbrev S768x768 : Shape := ⟨2, ![768, 768]⟩
abbrev S768 : Shape := ⟨1, ![768]⟩
abbrev S768x8 : Shape := ⟨2, ![768, 8]⟩
abbrev S768x1 : Shape := ⟨2, ![768, 1]⟩
abbrev S1 : Shape := ⟨1, ![1]⟩
abbrev S8x768x8 : Shape := ⟨3, ![8, 768, 8]⟩
abbrev S8x8x768 : Shape := ⟨3, ![8, 8, 768]⟩
abbrev S16384x768 : Shape := ⟨2, ![16384, 768]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S1x1 : Shape := ⟨2, ![1, 1]⟩

class Facts : Prop where
  shapeCasts_S2x8192x768_S16384x768 : S2x8192x768.ShapeCasts S16384x768
  reducesTo_S16384x8_S16384_d1 : S16384x8.ReducesTo [1] S16384
  h_S_ : 0 < S_.numel
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  bcast_S_S16384 : S_.BroadcastsInDim S16384 (![] : Fin 0 → Fin S16384.rank)
  dot_S16384x768_S768x8_S16384x8_1_0_0_1_n_n_wf : DotDims.WF S16384x768 S768x8 S16384x8 [1] [0] [0] [1] [] []
  dot_S16384x768_S768x1_S16384x1_1_0_0_1_n_n_wf : DotDims.WF S16384x768 S768x1 S16384x1 [1] [0] [0] [1] [] []

variable [Facts]

def dot_S16384x768_S768x8_S16384x8_1_0_0_1_n_n : DotDims S16384x768 S768x8 S16384x8 where
  lhsContracting := [1]
  rhsContracting := [0]
  lhsNonContracting := [0]
  rhsNonContracting := [1]
  lhsBatch := []
  rhsBatch := []
  wf := dot_S16384x768_S768x8_S16384x8_1_0_0_1_n_n_wf
def dot_S16384x768_S768x1_S16384x1_1_0_0_1_n_n : DotDims S16384x768 S768x1 S16384x1 where
  lhsContracting := [1]
  rhsContracting := [0]
  lhsNonContracting := [0]
  rhsNonContracting := [1]
  lhsBatch := []
  rhsBatch := []
  wf := dot_S16384x768_S768x1_S16384x1_1_0_0_1_n_n_wf
def fn {F : FTy → Type} [FloatOps F] (main_arg0 : FVec F S2x8192x768 .f32) (main_arg1 : FVec F S768x768 .f32) (main_arg2 : FVec F S768 .f32) (main_arg3 : FVec F S768x8 .f32) (main_arg4 : FVec F S768x1 .f32) (main_arg5 : FVec F S1 .f32) (main_arg6 : FVec F S8x768x8 .f32) (main_arg7 : FVec F S8x8x768 .f32) : IVec S16384 1 :=
  let main_v0 : FVec F S16384x768 .f32 := shapeCast S16384x768 main_arg0 shapeCasts_S2x8192x768_S16384x768
  let main_v1 : FVec F S16384x8 .f32 := (fun l r => Host.dotGeneral dot_S16384x768_S768x8_S16384x8_1_0_0_1_n_n none l r) main_v0 main_arg3
  let main_cst : FVec F S_ .f32 := constant S_ .f32 0xFF800000#32
  let main_v2 : FVec F S16384 .f32 := (fun x v => Host.reduce FloatOps.maximumf x v reducesTo_S16384x8_S16384_d1 h_S_) main_v1 main_cst
  let main_v3 : FVec F S16384x1 .f32 := (fun l r => Host.dotGeneral dot_S16384x768_S768x1_S16384x1_1_0_0_1_n_n none l r) main_v0 main_arg4
  let main_v4 : FVec F S1x1 .f32 := broadcastInDim S1x1 ![1] bcast_S1_S1x1_1 main_arg5
  let main_v5 : FVec F S16384x1 .f32 := broadcastInDim S16384x1 ![0, 1] bcast_S1x1_S16384x1_0_1 main_v4
  let main_v6 : FVec F S16384x1 .f32 := addf main_v3 main_v5
  let main_v7 : FVec F S16384 .f32 := shapeCast S16384 main_v6 shapeCasts_S16384x1_S16384
  let main_cst_0 : FVec F S_ .f32 := constant S_ .f32 0x00000000#32
  let main_v8 : FVec F S16384 .f32 := broadcastInDim S16384 ![] bcast_S_S16384 main_cst_0
  let main_v9 : FVec F S16384 .f32 := maximumf main_v7 main_v8
  let main_cst_1 : FVec F S_ .f32 := constant S_ .f32 0x42880000#32
  let main_v10 : FVec F S16384 .f32 := broadcastInDim S16384 ![] bcast_S_S16384 main_cst_1
  let main_v11 : FVec F S16384 .f32 := subf main_v9 main_v10
  let main_v12 : IVec S16384 1 := cmpf .oge main_v2 main_v11
  main_v12
-- ==== Kernel.lean ====
abbrev S2x8192x768 : Shape := ⟨3, ![2, 8192, 768]⟩
abbrev S768x768 : Shape := ⟨2, ![768, 768]⟩
abbrev S768 : Shape := ⟨1, ![768]⟩
abbrev S768x8 : Shape := ⟨2, ![768, 8]⟩
abbrev S768x1 : Shape := ⟨2, ![768, 1]⟩
abbrev S1 : Shape := ⟨1, ![1]⟩
abbrev S8x768x8 : Shape := ⟨3, ![8, 768, 8]⟩
abbrev S8x8x768 : Shape := ⟨3, ![8, 8, 768]⟩
abbrev S16384x768 : Shape := ⟨2, ![16384, 768]⟩
abbrev S768x8x8 : Shape := ⟨3, ![768, 8, 8]⟩
abbrev S768x64 : Shape := ⟨2, ![768, 64]⟩
abbrev S768x73 : Shape := ⟨2, ![768, 73]⟩
abbrev S1x768 : Shape := ⟨2, ![1, 768]⟩
abbrev S1x1 : Shape := ⟨2, ![1, 1]⟩
abbrev S64x768 : Shape := ⟨2, ![64, 768]⟩
abbrev S2048x768 : Shape := ⟨2, ![2048, 768]⟩
abbrev S768x9 : Shape := ⟨2, ![768, 9]⟩
abbrev S2048x9 : Shape := ⟨2, ![2048, 9]⟩
abbrev S2048x8 : Shape := ⟨2, ![2048, 8]⟩
abbrev S2048x1 : Shape := ⟨2, ![2048, 1]⟩
abbrev S2048 : Shape := ⟨1, ![2048]⟩
abbrev S8x64 : Shape := ⟨2, ![8, 64]⟩
abbrev S2048x64 : Shape := ⟨2, ![2048, 64]⟩

abbrev nBuf : Space → Nat
  | .hbm => 16
  | .vmem => 9
  | .smem => 0
  | _ => 0

abbrev bufTy : (tb : Table) → Fin (tcTables nBuf tb) → BufTy
  | .hbm, ⟨0, _⟩ => ⟨S2x8192x768, .f32⟩
  | .hbm, ⟨1, _⟩ => ⟨S768x768, .f32⟩
  | .hbm, ⟨2, _⟩ => ⟨S768, .f32⟩
  | .hbm, ⟨3, _⟩ => ⟨S768x8, .f32⟩
  | .hbm, ⟨4, _⟩ => ⟨S768x1, .f32⟩
  | .hbm, ⟨5, _⟩ => ⟨S1, .f32⟩
  | .hbm, ⟨6, _⟩ => ⟨S8x768x8, .f32⟩
  | .hbm, ⟨7, _⟩ => ⟨S8x8x768, .f32⟩
  | .hbm, ⟨8, _⟩ => ⟨S16384x768, .f32⟩
  | .hbm, ⟨9, _⟩ => ⟨S768x8x8, .f32⟩
  | .hbm, ⟨10, _⟩ => ⟨S768x64, .f32⟩
  | .hbm, ⟨11, _⟩ => ⟨S768x73, .f32⟩
  | .hbm, ⟨12, _⟩ => ⟨S1x768, .f32⟩
  | .hbm, ⟨13, _⟩ => ⟨S1x1, .f32⟩
  | .hbm, ⟨14, _⟩ => ⟨S64x768, .f32⟩
  | .hbm, ⟨15, _⟩ => ⟨S16384x768, .f32⟩
  | .local _ .vmem, ⟨0, _⟩ => ⟨S2048x768, .f32⟩
  | .local _ .vmem, ⟨1, _⟩ => ⟨S2048x768, .f32⟩
  | .local _ .vmem, ⟨2, _⟩ => ⟨S768x768, .f32⟩
  | .local _ .vmem, ⟨3, _⟩ => ⟨S1x768, .f32⟩
  | .local _ .vmem, ⟨4, _⟩ => ⟨S768x73, .f32⟩
  | .local _ .vmem, ⟨5, _⟩ => ⟨S1x1, .f32⟩
  | .local _ .vmem, ⟨6, _⟩ => ⟨S64x768, .f32⟩
  | .local _ .vmem, ⟨7, _⟩ => ⟨S2048x768, .f32⟩
  | .local _ .vmem, ⟨8, _⟩ => ⟨S2048x768, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x73 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x768 : Shape := ⟨3, ![2, 8192, 768]⟩
abbrev S768x768 : Shape := ⟨2, ![768, 768]⟩
abbrev S768 : Shape := ⟨1, ![768]⟩
abbrev S768x8 : Shape := ⟨2, ![768, 8]⟩
abbrev S768x1 : Shape := ⟨2, ![768, 1]⟩
abbrev S1 : Shape := ⟨1, ![1]⟩
abbrev S8x768x8 : Shape := ⟨3, ![8, 768, 8]⟩
abbrev S8x8x768 : Shape := ⟨3, ![8, 8, 768]⟩
abbrev S16384x768 : Shape := ⟨2, ![16384, 768]⟩
abbrev S1x768 : Shape := ⟨2, ![1, 768]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S1x1 : Shape := ⟨2, ![1, 1]⟩
abbrev S16384x8x8 : Shape := ⟨3, ![16384, 8, 8]⟩
abbrev S8x768x16384 : Shape := ⟨3, ![8, 768, 16384]⟩
abbrev S16384x8x768 : Shape := ⟨3, ![16384, 8, 768]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S768x768, .f32⟩
  | .hbm, ⟨2, _⟩ => ⟨S768, .f32⟩
  | .hbm, ⟨3, _⟩ => ⟨S768x8, .f32⟩
  | .hbm, ⟨4, _⟩ => ⟨S768x1, .f32⟩
  | .hbm, ⟨5, _⟩ => ⟨S1, .f32⟩
  | .hbm, ⟨6, _⟩ => ⟨S8x768x8, .f32⟩
  | .hbm, ⟨7, _⟩ => ⟨S8x8x768, .f32⟩
  | .hbm, ⟨8, _⟩ => ⟨S16384x768, .f32⟩
  | .hbm, ⟨9, _⟩ => ⟨S16384x768, .f32⟩
  | .hbm, ⟨10, _⟩ => ⟨S1x768, .f32⟩
  | .hbm, ⟨11, _⟩ => ⟨S16384x768, .f32⟩
  | .hbm, ⟨12, _⟩ => ⟨S16384x768, .f32⟩
  | .hbm, ⟨13, _⟩ => ⟨S16384x8, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x8, .f32⟩
  | .hbm, ⟨27, _⟩ => ⟨S16384x8, .f32⟩
  | .hbm, ⟨28, _⟩ => ⟨S16384x1, .f32⟩
  | .hbm, ⟨29, _⟩ => ⟨S1x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x8, .f32⟩
  | .hbm, ⟨44, _⟩ => ⟨S16384x8, .f32⟩
  | .hbm, ⟨45, _⟩ => ⟨S_, .f32⟩
  | .hbm, ⟨46, _⟩ => ⟨S16384x8, .f32⟩
  | .hbm, ⟨47, _⟩ => ⟨S16384x8, .i1⟩
  | .hbm, ⟨48, _⟩ => ⟨S16384x8, .f32⟩
  | .hbm, ⟨49, _⟩ => ⟨S16384x8, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .i1⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x8, .f32⟩
  | .hbm, ⟨60, _⟩ => ⟨S16384x8, .f32⟩
  | .hbm, ⟨61, _⟩ => ⟨S16384x8x8, .f32⟩
  | .hbm, ⟨62, _⟩ => ⟨S8x768x16384, .f32⟩
  | .hbm, ⟨63, _⟩ => ⟨S16384x8x768, .f32⟩
  | .hbm, ⟨64, _⟩ => ⟨S_, .f32⟩
  | .hbm, ⟨65, _⟩ => ⟨S16384x8x768, .f32⟩
  | .hbm, ⟨66, _⟩ => ⟨S16384x8x768, .f32⟩
  | .hbm, ⟨67, _⟩ => ⟨S16384x768, .f32⟩
  | .hbm, ⟨68, _⟩ => ⟨S16384x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Consts.lean ====
module

public import Idealize.ShloMosaic.PureOps.Ideal

/-! The float constants of the three programs, read as extended reals. -/

@[expose] public section

namespace Cert.Proof.Consts

open Idealize.ShloMosaic

/-- The threshold's factor is one eighth. -/
theorem eighth : Ideal.ofBits .f32 0x3E000000#32 = ((1 / 8 : ℝ) : EReal) := by
  simp [Ideal.ofBits, Ideal.ieee, -EReal.coe_mul]; norm_num

/-- The scale of the experts' outputs is two. -/
theorem two : Ideal.ofBits .f32 0x40000000#32 = ((2 : ℝ) : EReal) := by
  simp [Ideal.ofBits, Ideal.ieee, -EReal.coe_mul]; norm_num

/-- The kernel's least denominator, the single-precision number nearest 1e-30. -/
theorem least : Ideal.ofBits .f32 0x0DA24260#32 = ((10633824 / 2 ^ 123 : ℝ) : EReal) := by
  simp [Ideal.ofBits, Ideal.ieee, -EReal.coe_mul]; norm_num

/-- The word of minus infinity. -/
theorem negInf : Ideal.ofBits .f32 0xFF800000#32 = ⊥ := by simp [Ideal.ofBits, Ideal.ieee]

/-- The margin of the precondition. -/
theorem margin : Ideal.ofBits .f32 0x42880000#32 = ((68 : ℝ) : EReal) := by
  simp [Ideal.ofBits, Ideal.ieee, -EReal.coe_mul]; norm_num

end Cert.Proof.Consts

end
-- ==== Proof.Gate.lean ====
module

public import Idealize.ShloMosaic.Lib.Pointwise
public import proofs.«01_k».proof.Proof.Consts
public import Mathlib.Analysis.Complex.Exponential

/-! One token's gate. The kernel subtracts an eighth of the logistic threshold times the sum of the plain exponentials
from each exponential, drops what is negative, and divides by the sum of what is left, which it keeps above a least
denominator. The reference subtracts the largest logit first, forms the softmax, subtracts the threshold, drops what is
negative and divides by the sum of what is left, guarded against zero. The two agree, as nonnegative real numbers, when
the largest logit is at most 68 below the larger of the threshold logit and zero. -/

@[expose] public section

namespace Cert.Proof.Gate

open Idealize.ShloMosaic

/-- The kernel's unnormalized gate of expert `e`, from the gate logits `g` and the threshold logit `z`. -/
noncomputable def kRaw (g : Fin 8 → EReal) (z : EReal) (e : Fin 8) : EReal :=
  max (Ideal.exp (g e) - Ideal.logistic z * Ideal.ofBits .f32 0x3E000000#32 * ∑ x, Ideal.exp (g x)) 0

/-- The kernel's gate of expert `e`. -/
noncomputable def kGate (g : Fin 8 → EReal) (z : EReal) (e : Fin 8) : EReal :=
  Ideal.div (kRaw g z e) (max (∑ x, kRaw g z x) (Ideal.ofBits .f32 0x0DA24260#32))

/-- The largest gate logit. -/
noncomputable def top (g : Fin 8 → EReal) : EReal :=
  Finset.fold max (Ideal.ofBits .f32 0xFF800000#32) g Finset.univ

/-- The reference's softmax probability of expert `e`. -/
noncomputable def prob (g : Fin 8 → EReal) (e : Fin 8) : EReal :=
  Ideal.div (Ideal.exp (g e - max (Ideal.ofBits .f32 0xFF800000#32) (top g)))
    (∑ x, Ideal.exp (g x - max (Ideal.ofBits .f32 0xFF800000#32) (top g)))

/-- The reference's threshold before its factor. -/
noncomputable def sigm (z : EReal) : EReal :=
  Ideal.div (Ideal.ofBits .f32 0x3F800000#32) (Ideal.ofBits .f32 0x3F800000#32 + Ideal.exp (-z))

/-- The reference's probability less the threshold. -/
noncomputable def adapted (g : Fin 8 → EReal) (z : EReal) (e : Fin 8) : EReal :=
  prob g e - sigm z * Ideal.ofBits .f32 0x3E000000#32

/-- What the reference keeps of it. -/
noncomputable def kept (g : Fin 8 → EReal) (z : EReal) (e : Fin 8) : EReal :=
  adapted g z e * FloatOps.uitofp (F := Ideal) FTy.f32 (BitVec.ofBool (decide (Ideal.ofBits .f32 0x00000000#32 ≤ adapted g z e)))

/-- The reference's gate of expert `e`. -/
noncomputable def rGate (g : Fin 8 → EReal) (z : EReal) (e : Fin 8) : EReal :=
  Ideal.div (kept g z e)
    (if Ideal.ofBits .f32 0x00000000#32 + ∑ x, kept g z x = Ideal.ofBits .f32 0x00000000#32
      then Ideal.ofBits .f32 0x3F800000#32 else Ideal.ofBits .f32 0x00000000#32 + ∑ x, kept g z x)

/-- A finite sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers is the same among the extended reals. -/
theorem coe_max (a b : ℝ) : ((max a b : ℝ) : EReal) = max (a : EReal) (b : EReal) :=
  EReal.coe_strictMono.monotone.map_max

/-- A quotient of real numbers with a nonzero divisor is the same among the extended reals. -/
theorem coe_quot (a b : ℝ) (hb : b ≠ 0) : Ideal.div (a : EReal) (b : EReal) = ((a / b : ℝ) : EReal) := by
  rw [Ideal.div_coe hb, ← EReal.coe_mul, mul_one_div]

/-- The exponential of minus infinity is zero. -/
theorem exp_bot : Ideal.exp ⊥ = 0 := rfl

/-- The exponential of plus infinity is itself. -/
theorem exp_top : Ideal.exp ⊤ = ⊤ := rfl

/-- The exponential of a logit below infinity is a nonnegative real number, and subtracting a real `m` first multiplies
it by the exponential of `-m`. -/
theorem exp_real (a : EReal) (ha : a ≠ ⊤) (m : ℝ) :
    ∃ E : ℝ, 0 ≤ E ∧ Ideal.exp a = (E : EReal) ∧ Ideal.exp (a - (m : EReal)) = ((E * Real.exp (-m) : ℝ) : EReal)
      ∧ ∀ r : ℝ, a = r → E = Real.exp r := by
  induction a with
  | top => exact absurd rfl ha
  | bot => exact ⟨0, le_refl _, by simp [exp_bot], by simp [exp_bot], fun r h => absurd h.symm (EReal.coe_ne_bot r)⟩
  | coe r =>
    refine ⟨Real.exp r, (Real.exp_pos r).le, Ideal.exp_coe r, ?_, fun s h => by rw [EReal.coe_eq_coe_iff.mp h]⟩
    rw [← EReal.coe_sub, Ideal.exp_coe, ← Real.exp_add, sub_eq_add_neg]

/-- The kernel's logistic is the reference's quotient. -/
theorem logistic_eq (z : EReal) : Ideal.logistic z = sigm z := by
  rw [sigm, Ideal.ofBits_one_f32]; rfl

/-- The threshold of a logit whose larger with zero is the real number `y`: a nonnegative real number, below one by at
least half the exponential of `-y`. -/
theorem sigm_real (z : EReal) (y : ℝ) (hy : max z 0 = (y : EReal)) :
    ∃ σ : ℝ, 0 ≤ σ ∧ sigm z = (σ : EReal) ∧ Real.exp (-y) / 2 ≤ 1 - σ := by
  induction z with
  | top => simp at hy
  | bot =>
    have h0 : y = 0 := by
      rw [max_eq_right bot_le] at hy; exact_mod_cast hy.symm
    refine ⟨0, le_refl _, ?_, by rw [h0]; norm_num⟩
    have h1 : (1 : EReal) + ⊤ = ⊤ := by rw [← EReal.coe_one, EReal.coe_add_top]
    rw [sigm, Ideal.ofBits_one_f32, EReal.neg_bot, exp_top, h1]
    simp [Ideal.div]
  | coe r =>
    have hyr : max r 0 = y := by
      have h := hy; rw [← EReal.coe_zero, ← coe_max] at h; exact EReal.coe_eq_coe_iff.mp h
    have hp : 0 < 1 + Real.exp (-r) := by positivity
    refine ⟨1 / (1 + Real.exp (-r)), by positivity, ?_, ?_⟩
    · rw [sigm, Ideal.ofBits_one_f32, ← EReal.coe_neg, Ideal.exp_coe, ← EReal.coe_one, ← EReal.coe_add,
        coe_quot _ _ hp.ne']
    · have hm : Real.exp (-r) * Real.exp r = 1 := by rw [← Real.exp_add]; simp
      have hq : Real.exp (-y) * Real.exp y = 1 := by rw [← Real.exp_add]; simp
      have h1 : Real.exp r ≤ Real.exp y := Real.exp_le_exp.mpr (hyr ▸ le_max_left r 0)
      have h2 : 1 ≤ Real.exp y := Real.one_le_exp (hyr ▸ le_max_right r 0)
      have hr := Real.exp_pos r
      have hn := Real.exp_pos (-y)
      have e : 1 - 1 / (1 + Real.exp (-r)) = 1 / (1 + Real.exp r) := by
        have : 0 < 1 + Real.exp r := by positivity
        field_simp
        nlinarith
      rw [e, div_le_div_iff₀ (by norm_num) (by positivity)]
      nlinarith

/-- The least denominator is at most half the exponential of -68. -/
theorem least_le : (10633824 / 2 ^ 123 : ℝ) ≤ Real.exp (-68) / 2 := by
  have h1 : Real.exp 1 ≤ 2.7183 := by
    refine (Real.exp_bound' (by norm_num) (le_refl 1) (n := 8) (by norm_num)).trans ?_
    simp only [Finset.sum_range_succ, Finset.sum_range_zero, Nat.factorial]
    norm_num
  have h : Real.exp 68 ≤ 2.7183 ^ 68 := by
    have e : Real.exp 68 = Real.exp 1 ^ 68 := by rw [← Real.exp_nat_mul]; norm_num
    rw [e]
    exact pow_le_pow_left₀ (Real.exp_pos 1).le h1 68
  have h' : Real.exp 68 ≤ 2 ^ 122 / 10633824 := h.trans (by norm_num)
  rw [Real.exp_neg, le_div_iff₀ (by norm_num), le_inv_comm₀ (by norm_num) (Real.exp_pos _)]
  refine h'.trans (le_of_eq ?_)
  norm_num

/-- The real numbers' side: what the kernel keeps sums to at least its least denominator. -/
theorem least_le_sum (E : Fin 8 → ℝ) (σ m y : ℝ) (hm : Real.exp m ≤ ∑ x, E x)
    (hσ : Real.exp (-y) / 2 ≤ 1 - σ) (hmy : -68 ≤ m - y) :
    (10633824 / 2 ^ 123 : ℝ) ≤ ∑ e, max (E e - σ * (1 / 8) * ∑ x, E x) 0 := by
  have h1 : ∑ e, (E e - σ * (1 / 8) * ∑ x, E x) ≤ ∑ e, max (E e - σ * (1 / 8) * ∑ x, E x) 0 :=
    Finset.sum_le_sum fun e _ => le_max_left _ _
  have h2 : ∑ e, (E e - σ * (1 / 8) * ∑ x, E x) = (∑ x, E x) * (1 - σ) := by
    rw [Finset.sum_sub_distrib, Finset.sum_const, Finset.card_univ, Fintype.card_fin, nsmul_eq_mul]
    push_cast; ring
  have h3 : Real.exp m * (Real.exp (-y) / 2) ≤ (∑ x, E x) * (1 - σ) :=
    mul_le_mul hm hσ (by positivity) ((Real.exp_pos m).le.trans hm)
  have h4 : Real.exp (-68) ≤ Real.exp m * Real.exp (-y) := by
    rw [← Real.exp_add]; exact Real.exp_le_exp.mpr (by linarith)
  have := least_le
  linarith

/-- A probability less its threshold, scaled by the sum of the exponentials, is what the kernel forms. -/
theorem scale_max (S E c : ℝ) (hS : 0 < S) : max (E / S - c) 0 = max (E - c * S) 0 / S := by
  rw [← max_div_div_right hS.le, sub_div, mul_div_cancel_right₀ _ hS.ne', zero_div]

/-- Keeping a real number where it is not negative is taking the larger of it and zero. -/
theorem keep_real (a : ℝ) :
    (a : EReal) * FloatOps.uitofp (F := Ideal) FTy.f32 (BitVec.ofBool (decide ((0 : EReal) ≤ (a : EReal)))) = ((max a 0 : ℝ) : EReal) := by
  by_cases h : 0 ≤ a
  · have : (0 : EReal) ≤ (a : EReal) := by exact_mod_cast h
    rw [max_eq_left h]
    simp [this, FloatOps.uitofp]
  · have : ¬ (0 : EReal) ≤ (a : EReal) := by exact_mod_cast h
    rw [max_eq_right (not_le.mp h).le]
    simp [this, FloatOps.uitofp]

/-- The largest logit bounds every logit and is one of them unless it is minus infinity. -/
theorem top_spec (g : Fin 8 → EReal) : (∀ e, g e ≤ top g) ∧ (top g = ⊥ ∨ ∃ e, g e = top g) := by
  rw [top, Consts.negInf]
  refine ⟨fun e => (Finset.le_fold_max (g e)).mpr (Or.inr ⟨e, Finset.mem_univ _, le_refl _⟩), ?_⟩
  by_cases h : Finset.fold max ⊥ g Finset.univ = ⊥
  · exact Or.inl h
  · right
    rcases (Finset.le_fold_max (Finset.fold max ⊥ g Finset.univ)).mp (le_refl _) with h' | ⟨e, _, he⟩
    · exact absurd (le_bot_iff.mp h') h
    · exact ⟨e, le_antisymm ((Finset.le_fold_max (g e)).mpr (Or.inr ⟨e, Finset.mem_univ _, le_refl _⟩)) he⟩

/-- The threshold before its factor is a nonnegative real number for every threshold logit. -/
theorem sigm_nonneg (z : EReal) : ∃ σ : ℝ, 0 ≤ σ ∧ sigm z = (σ : EReal) := by
  by_cases h : z = ⊤
  · refine ⟨1, zero_le_one, ?_⟩
    rw [h, sigm, Ideal.ofBits_one_f32, EReal.neg_top, exp_bot, add_zero, ← EReal.coe_one, coe_quot _ _ one_ne_zero, div_one]
  · have ht : max z 0 ≠ ⊤ := fun h' => by
      rcases max_choice z 0 with hc | hc
      · exact h (hc ▸ h')
      · exact EReal.zero_ne_top (hc ▸ h')
    have hb : max z 0 ≠ ⊥ := fun h' => by
      have := le_max_right z 0; rw [h'] at this; exact absurd (le_bot_iff.mp this) EReal.zero_ne_bot
    obtain ⟨σ, h0, hσ, _⟩ := sigm_real z _ (EReal.coe_toReal ht hb).symm
    exact ⟨σ, h0, hσ⟩

/-- The exponential of any extended real is nonnegative. -/
theorem exp_nonneg (a : EReal) : 0 ≤ Ideal.exp a := by
  induction a with
  | top => rw [exp_top]; exact le_top
  | bot => rw [exp_bot]
  | coe r => rw [Ideal.exp_coe]; exact_mod_cast (Real.exp_pos r).le

/-- A quotient by plus infinity is zero. -/
theorem quot_top (a : EReal) : Ideal.div a ⊤ = 0 := by
  rw [Ideal.div, if_neg EReal.top_ne_zero, EReal.inv_top, mul_zero]

/-- Where the largest logit is plus infinity the kernel's gates are zero: either every exponential loses an infinite
threshold or the threshold is zero and the denominator infinite. -/
theorem kGate_top (g : Fin 8 → EReal) (z : EReal) (htop : top g = ⊤) (e : Fin 8) : kGate g z e = 0 := by
  obtain ⟨e0, he0⟩ := (top_spec g).2.resolve_left (by rw [htop]; exact top_ne_bot)
  have hS : ∑ x, Ideal.exp (g x) = ⊤ := by
    have h := Finset.single_le_sum (f := fun x => Ideal.exp (g x)) (fun x _ => exp_nonneg (g x)) (Finset.mem_univ e0)
    simp only [he0, htop, exp_top] at h
    exact top_le_iff.mp h
  obtain ⟨σ, h0, hσ⟩ := sigm_nonneg z
  rcases h0.eq_or_lt with h | h
  · have hraw : ∀ x, kRaw g z x = Ideal.exp (g x) := fun x => by
      rw [kRaw, logistic_eq, hσ, ← h, EReal.coe_zero, zero_mul, zero_mul, sub_zero, max_eq_left (exp_nonneg _)]
    rw [kGate, Finset.sum_congr rfl fun x _ => hraw x, hS, max_eq_left le_top, quot_top]
  · have hraw : ∀ x, kRaw g z x = 0 := fun x => by
      rw [kRaw, logistic_eq, hσ, Consts.eighth, hS, ← EReal.coe_mul, EReal.coe_mul_top_of_pos (by positivity), EReal.sub_top,
        max_eq_right bot_le]
    have hz : max (0 : EReal) ((10633824 / 2 ^ 123 : ℝ) : EReal) = ((10633824 / 2 ^ 123 : ℝ) : EReal) :=
      max_eq_right (by exact_mod_cast (by norm_num : (0 : ℝ) ≤ 10633824 / 2 ^ 123))
    rw [kGate, hraw, Finset.sum_congr rfl fun x _ => hraw x, Finset.sum_const_zero, Consts.least, hz, ← EReal.coe_zero,
      coe_quot _ _ (by norm_num), zero_div]

/-- Where the largest logit is plus infinity the reference's gates are zero: its probabilities are quotients of zeros,
minus infinity here, and it keeps none of them. -/
theorem rGate_top (g : Fin 8 → EReal) (z : EReal) (htop : top g = ⊤) (e : Fin 8) : rGate g z e = 0 := by
  have hprob : ∀ x, prob g x = ⊥ := fun x => by
    rw [prob, htop, max_eq_right le_top, EReal.sub_top, exp_bot]
    simp only [EReal.sub_top, exp_bot, Finset.sum_const_zero]
    simp [Ideal.div]
  have hkept : ∀ x, kept g z x = 0 := fun x => by
    have ha : adapted g z x = ⊥ := by rw [adapted, hprob, EReal.bot_sub]
    rw [kept, ha, Ideal.ofBits_zero_f32]
    simp [FloatOps.uitofp]
  rw [rGate, hkept, Finset.sum_congr rfl fun x _ => hkept x, Finset.sum_const_zero, Ideal.ofBits_zero_f32, add_zero, if_pos rfl,
    Ideal.ofBits_one_f32, ← EReal.coe_zero, ← EReal.coe_one, coe_quot _ _ one_ne_zero, zero_div]

/-- The kernel's gate and the reference's are one nonnegative real number. -/
theorem gate_eq (g : Fin 8 → EReal) (z : EReal) (hgap : max z 0 - ((68 : ℝ) : EReal) ≤ top g) (e : Fin 8) :
    ∃ r : ℝ, 0 ≤ r ∧ kGate g z e = (r : EReal) ∧ rGate g z e = (r : EReal) := by
  by_cases htop' : top g = ⊤
  · exact ⟨0, le_refl _, kGate_top g z htop' e, rGate_top g z htop' e⟩
  have htop : top g < ⊤ := lt_top_iff_ne_top.mpr htop'
  obtain ⟨hle, hat⟩ := top_spec g
  have hzb : max z 0 ≠ ⊥ := fun h => by
    have := le_max_right z 0; rw [h] at this; exact absurd (le_bot_iff.mp this) EReal.zero_ne_bot
  have hzt : max z 0 ≠ ⊤ := by
    intro h; rw [h, EReal.top_sub_coe] at hgap; exact htop' (top_le_iff.mp hgap)
  obtain ⟨y, hy⟩ : ∃ y : ℝ, max z 0 = y := ⟨(max z 0).toReal, (EReal.coe_toReal hzt hzb).symm⟩
  rw [hy, ← EReal.coe_sub] at hgap
  have hne : top g ≠ ⊥ := by
    intro h; rw [h] at hgap; exact absurd (le_bot_iff.mp hgap) (EReal.coe_ne_bot _)
  obtain ⟨m, hm⟩ : ∃ m : ℝ, top g = m := ⟨(top g).toReal, (EReal.coe_toReal htop.ne hne).symm⟩
  obtain ⟨e0, he0⟩ := hat.resolve_left hne
  have hmy : -68 ≤ m - y := by
    rw [hm] at hgap; linarith [EReal.coe_le_coe_iff.mp hgap]
  obtain ⟨σ, hσ0, hσ, hσ1⟩ := sigm_real z y hy
  choose E hE0 hE hEm hEr using fun x => exp_real (g x) (fun h => absurd (h ▸ hle x) (not_le.mpr htop)) m
  have hS : Real.exp m ≤ ∑ x, E x := by
    rw [← hEr e0 m (he0.trans hm)]
    exact Finset.single_le_sum (f := E) (fun x _ => hE0 x) (Finset.mem_univ e0)
  have hSpos : 0 < ∑ x, E x := (Real.exp_pos m).trans_le hS
  have hU := least_le_sum E σ m y hS hσ1 hmy
  set u : Fin 8 → ℝ := fun x => max (E x - σ * (1 / 8) * ∑ x, E x) 0 with hu
  have hUpos : 0 < ∑ x, u x := lt_of_lt_of_le (by positivity) hU
  have hraw : ∀ x, kRaw g z x = (u x : EReal) := fun x => by
    rw [kRaw, logistic_eq, hσ, Consts.eighth, hE, Finset.sum_congr rfl fun x _ => hE x, ← coe_sum, ← EReal.coe_mul,
      ← EReal.coe_mul, ← EReal.coe_sub, ← EReal.coe_zero, ← coe_max]
  have hprob : ∀ x, prob g x = ((E x / ∑ x, E x : ℝ) : EReal) := fun x => by
    rw [prob, Consts.negInf, max_eq_right bot_le, hm, hEm, Finset.sum_congr rfl fun x _ => hEm x, ← coe_sum,
      ← Finset.sum_mul, coe_quot _ _ (mul_pos hSpos (Real.exp_pos _)).ne', mul_div_mul_right _ _ (Real.exp_pos _).ne']
  have hkept : ∀ x, kept g z x = ((u x / ∑ x, E x : ℝ) : EReal) := fun x => by
    have ha : adapted g z x = ((E x / (∑ x, E x) - σ * (1 / 8) : ℝ) : EReal) := by
      rw [adapted, hprob, hσ, Consts.eighth, ← EReal.coe_mul, ← EReal.coe_sub]
    rw [kept, ha, Ideal.ofBits_zero_f32, keep_real, scale_max _ _ _ hSpos]
  refine ⟨u e / ∑ x, u x, div_nonneg (le_max_right _ _) hUpos.le, ?_, ?_⟩
  · rw [kGate, hraw, Finset.sum_congr rfl fun x _ => hraw x, Consts.least, ← coe_sum, ← coe_max, max_eq_left hU,
      coe_quot _ _ hUpos.ne']
  · have hs : ∑ x, kept g z x = (((∑ x, u x) / ∑ x, E x : ℝ) : EReal) := by
      rw [Finset.sum_congr rfl fun x _ => hkept x, ← coe_sum, ← Finset.sum_div]
    have hd : 0 < (∑ x, u x) / ∑ x, E x := div_pos hUpos hSpos
    rw [rGate, hs, hkept, Ideal.ofBits_zero_f32, zero_add, if_neg (by exact_mod_cast hd.ne'), coe_quot _ _ hd.ne',
      div_div_div_cancel_right₀ hSpos.ne']

end Cert.Proof.Gate

end
-- ==== Proof.Mixture.lean ====
module

public import proofs.«01_k».proof.Proof.Gate

/-! The experts' mixture. The kernel keeps the 64 low-rank coordinates of the eight experts side by side, scales
coordinate `x` by twice the gate of expert `x / 8` and multiplies by the stacked output matrices; the reference sums,
expert by expert, the gate times twice the expert's output. With nonnegative real gates the two are equal whatever the
coordinates and the matrices hold. -/

@[expose] public section

namespace Cert.Proof.Mixture

open Idealize.ShloMosaic

/-- A nonnegative real factor goes inside a finite sum of extended reals. -/
theorem mul_sum_real {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- A sum over the 64 coordinates is a sum over the experts of a sum over each expert's eight coordinates. -/
theorem sum_split (f : Fin 64 → EReal) :
    ∑ x, f x = ∑ e : Fin 8, ∑ r : Fin 8, f ⟨r.val + 8 * e.val, by omega⟩ := by
  rw [← Fintype.sum_prod_type' (fun (e : Fin 8) (r : Fin 8) => f ⟨r.val + 8 * e.val, by omega⟩)]
  exact (Fintype.sum_equiv (finProdFinEquiv (m := 8) (n := 8)) _ _ fun _ => rfl).symm

/-- The scale of coordinate `x`: the sum over the experts that keeps only expert `x / 8`. -/
theorem spread (w : Fin 8 → ℝ) (e : Fin 8) (k : Fin 8 → EReal) (hk : ∀ e', k e' = if e' = e then 1 else 0) :
    ∑ e', (w e' : EReal) * (k e' * ((2 : ℝ) : EReal)) = (w e : EReal) * ((2 : ℝ) : EReal) := by
  rw [Finset.sum_eq_single e (fun e' _ h => by rw [hk, if_neg h, zero_mul, mul_zero])
    (fun h => absurd (Finset.mem_univ e) h), hk, if_pos rfl, one_mul]

/-- The two mixtures are equal. -/
theorem mixture_eq (w : Fin 8 → ℝ) (hw : ∀ e, 0 ≤ w e) (h b : Fin 64 → EReal) (k : Fin 64 → Fin 8 → EReal)
    (hk : ∀ x e, k x e = if e = ⟨x.val / 8, by omega⟩ then 1 else 0) :
    ∑ x, h x * (∑ e, (w e : EReal) * (k x e * ((2 : ℝ) : EReal))) * b x
      = ∑ e : Fin 8, (w e : EReal)
          * ((∑ r : Fin 8, b ⟨r.val + 8 * e.val, by omega⟩ * h ⟨r.val + 8 * e.val, by omega⟩) * ((2 : ℝ) : EReal)) := by
  rw [sum_split]
  refine Finset.sum_congr rfl fun e _ => ?_
  rw [mul_comm (∑ r : Fin 8, _) ((2 : ℝ) : EReal), mul_sum_real 2 (by norm_num), mul_sum_real _ (hw e)]
  refine Finset.sum_congr rfl fun r _ => ?_
  have he : (⟨(r.val + 8 * e.val) / 8, by omega⟩ : Fin 8) = e := Fin.ext (by simp only; omega)
  rw [spread w e _ fun e' => by rw [hk, he]]
  ac_rfl

/-- The two mixtures are equal, the coordinates and the matrices indexed by expert and coordinate. -/
theorem mixture_pairs (w : Fin 8 → ℝ) (hw : ∀ e, 0 ≤ w e) (H B : Fin 8 → Fin 8 → EReal) (k : Fin 64 → Fin 8 → EReal)
    (hk : ∀ x e, k x e = if e = ⟨x.val / 8, by omega⟩ then 1 else 0) :
    ∑ x : Fin 64, H ⟨x.val / 8, by omega⟩ ⟨x.val % 8, by omega⟩ * (∑ e, (w e : EReal) * (k x e * ((2 : ℝ) : EReal)))
        * B ⟨x.val / 8, by omega⟩ ⟨x.val % 8, by omega⟩
      = ∑ e : Fin 8, (w e : EReal) * ((∑ r : Fin 8, B e r * H e r) * ((2 : ℝ) : EReal)) := by
  rw [mixture_eq w hw (fun x => H ⟨x.val / 8, by omega⟩ ⟨x.val % 8, by omega⟩)
    (fun x => B ⟨x.val / 8, by omega⟩ ⟨x.val % 8, by omega⟩) k hk]
  refine Finset.sum_congr rfl fun e _ => ?_
  have hs : ∑ r : Fin 8, B ⟨(r.val + 8 * e.val) / 8, by omega⟩ ⟨(r.val + 8 * e.val) % 8, by omega⟩
        * H ⟨(r.val + 8 * e.val) / 8, by omega⟩ ⟨(r.val + 8 * e.val) % 8, by omega⟩ = ∑ r : Fin 8, B e r * H e r := by
    refine Finset.sum_congr rfl fun r _ => ?_
    have he : (⟨(r.val + 8 * e.val) / 8, by omega⟩ : Fin 8) = e := Fin.ext (by simp only; omega)
    have hr : (⟨(r.val + 8 * e.val) % 8, by omega⟩ : Fin 8) = r := Fin.ext (by simp only; omega)
    rw [he, hr]
  rw [← hs]

end Cert.Proof.Mixture

end
-- ==== Proof.Spec.lean ====
module

public import proofs.«01_k».proof.Proof.Mixture

/-! The result's entry at token `t` and feature `j`, as the kernel forms it and as the reference forms it, over the
contents of the eight argument arrays; and their equality under the gate's conditions. -/

@[expose] public section

namespace Cert.Proof.Spec

open Idealize.ShloMosaic

variable (x : (⟨3, ![2, 8192, 768]⟩ : Shape).Idx → EReal) (Wb : (⟨2, ![768, 768]⟩ : Shape).Idx → EReal)
  (bb : (⟨1, ![768]⟩ : Shape).Idx → EReal) (Wg : (⟨2, ![768, 8]⟩ : Shape).Idx → EReal)
  (Wt : (⟨2, ![768, 1]⟩ : Shape).Idx → EReal) (bt : (⟨1, ![1]⟩ : Shape).Idx → EReal)
  (A : (⟨3, ![8, 768, 8]⟩ : Shape).Idx → EReal) (Bm : (⟨3, ![8, 8, 768]⟩ : Shape).Idx → EReal)

/-- Feature `k` of token `t`, the tokens of both sequences counted in one line. -/
noncomputable def flat (t : Fin 16384) (k : Fin 768) : EReal :=
  x (ix3 ⟨t.val / 8192, by omega⟩ ⟨t.val % 8192, by omega⟩ k)

/-- Token `t`'s gate logit for expert `e`. -/
noncomputable def logit (t : Fin 16384) (e : Fin 8) : EReal := ∑ k, flat x t k * Wg (ix2 k e)

/-- Token `t`'s threshold logit. -/
noncomputable def thr (t : Fin 16384) : EReal := ∑ k, flat x t k * Wt (ix2 k 0) + bt (ix1 0)

/-- Token `t`'s base output at feature `j`. -/
noncomputable def base (t : Fin 16384) (j : Fin 768) : EReal := ∑ k, flat x t k * Wb (ix2 k j) + bb (ix1 j)

/-- Token `t`'s low-rank coordinate `r` under expert `e`. -/
noncomputable def coord (t : Fin 16384) (e : Fin 8) (r : Fin 8) : EReal := ∑ k, flat x t k * A (ix3 e k r)

/-- The kernel's expert mask: one where coordinate `c` belongs to expert `e`, else zero. -/
noncomputable def mask (c : Fin 64) (e : Fin 8) : EReal := if e = ⟨c.val / 8, by omega⟩ then 1 else 0

/-- The kernel's entry. -/
noncomputable def kOut (t : Fin 16384) (j : Fin 768) : EReal :=
  base x Wb bb t j
    + ∑ c : Fin 64, (coord x A t ⟨c.val / 8, by omega⟩ ⟨c.val % 8, by omega⟩
        * ∑ e, Gate.kGate (logit x Wg t) (thr x Wt bt t) e * (mask c e * Ideal.ofBits .f32 0x40000000#32))
      * Bm (ix3 ⟨c.val / 8, by omega⟩ ⟨c.val % 8, by omega⟩ j)

/-- The reference's entry. -/
noncomputable def rOut (t : Fin 16384) (j : Fin 768) : EReal :=
  base x Wb bb t j
    + ∑ e, Gate.rGate (logit x Wg t) (thr x Wt bt t) e
        * ((∑ r : Fin 8, Bm (ix3 e r j) * coord x A t e r) * Ideal.ofBits .f32 0x40000000#32)

/-- The two entries are equal where the token's largest gate logit is at most 68 below the larger of its threshold logit
and zero. -/
theorem out_eq (t : Fin 16384) (j : Fin 768)
    (hgap : max (thr x Wt bt t) 0 - ((68 : ℝ) : EReal) ≤ Gate.top (logit x Wg t)) :
    kOut x Wb bb Wg Wt bt A Bm t j = rOut x Wb bb Wg Wt bt A Bm t j := by
  choose w hw hk hr using Gate.gate_eq (logit x Wg t) (thr x Wt bt t) hgap
  rw [kOut, rOut, Consts.two]
  simp only [hk, hr]
  exact congrArg (base x Wb bb t j + ·)
    (Mixture.mixture_pairs w hw (coord x A t) (fun e r => Bm (ix3 e r j)) mask fun _ _ => rfl)

end Cert.Proof.Spec

end
-- ==== Proof.KerValue.lean ====
module

public import proofs.«01_k».proof.Proof.Gen.KernelIdeal.Value
public import proofs.«01_k».proof.Proof.Spec
public import Idealize.ShloMosaic.Lib.Pipeline.ValueKit
public import Idealize.ShloMosaic.Lib.Claim

/-! The kernel's result array, entry by entry. -/

@[expose] public section

set_option maxRecDepth 16384

namespace Cert.Proof.KerValue

open Idealize.ShloMosaic Cert.KernelIdeal Cert.KernelIdeal.Gen Idealize.ShloMosaic.TcCoe

/-- The kernel's word for "coordinate `c` belongs to expert `e`": the floor of `c / 8` spelled with a truncating
division and a correction of the sign, compared with `e`. -/
theorem mask_word : ∀ (c : Fin 64) (e : Fin 8),
    IntOp.cmpi .eq
      (Scalar.select
        (IntOp.andi
          (IntOp.cmpi .ne
            (IntOp.subi (BitVec.setWidth 32 (IntOp.cmpi .sgt (BitVec.ofNat 32 c.val) 0#32))
              (BitVec.setWidth 32 (IntOp.cmpi .slt (BitVec.ofNat 32 c.val) 0#32)))
            (Scalar.subi (Scalar.extui (Scalar.cmpi .sgt 8#32 0#32)) (Scalar.extui (Scalar.cmpi .slt 8#32 0#32))))
          (IntOp.cmpi .ne (IntOp.remsi .vector (BitVec.ofNat 32 c.val) 8#32) 0#32))
        (IntOp.subi (IntOp.divsi .vector (BitVec.ofNat 32 c.val) 8#32) 1#32)
        (IntOp.divsi .vector (BitVec.ofNat 32 c.val) 8#32))
      (BitVec.ofNat 32 e.val)
      = if e = ⟨c.val / 8, by omega⟩ then 1#1 else 0#1 := by
  decide +kernel

/-- The word of the mask, widened and converted, is the mask. -/
theorem mask_real (c : Fin 64) (e : Fin 8) :
    FloatOps.sitofp (F := Ideal) FTy.f32 (BitVec.setWidth 32 (if e = ⟨c.val / 8, by omega⟩ then 1#1 else 0#1)) = Spec.mask c e := by
  by_cases h : e = ⟨c.val / 8, by omega⟩
  · simp [Spec.mask, h, FloatOps.sitofp]
  · simp [Spec.mask, h, FloatOps.sitofp]

/-- The rounded tokens of a block are the tokens. -/
theorem tokens_at (v0) (r : Fin 2048) (k : Fin 768) : k0_pay2 (F := Ideal) v0 (ix2 r k) = v0 (ix2 r k) := by
  pointwise [k0_pay2]

/-- The base output of a block. -/
theorem base_at (v0 v3 v6) (r : Fin 2048) (j : Fin 768) :
    k0_pay3 (F := Ideal) v0 v3 v6 (ix2 r j) = ∑ k, v0 (ix2 r k) * v3 (ix2 k j) + v6 (ix2 0 j) := by
  pointwise [k0_pay3, k0_pay2]

/-- The gates of a block. -/
theorem gate_at (v0 v10 v19) (r : Fin 2048) (e : Fin 8) :
    k0_pay4 (F := Ideal) v0 v10 v19 (ix2 r e)
      = Gate.kGate (fun e => ∑ k, v0 (ix2 r k) * v10 (ix2 k ⟨e.val, by omega⟩)) (∑ k, v0 (ix2 r k) * v10 (ix2 k 8) + v19 (ix2 0 0)) e := by
  pointwise [k0_pay4, k0_pay2]
  rfl

/-- The output of a block, from its base output and its gates. -/
theorem out_at (v2 v9 v36 v69 v75) (r : Fin 2048) (j : Fin 768) :
    k0_pay1 (F := Ideal) v2 v9 v36 (iota .tc S8x64 32 [0] iota_S8x64_d0_w32) (iota .tc S8x64 32 [1] iota_S8x64_d1_w32) 8#32 k0_pay5 v69 v75 (ix2 r j)
      = v9 (ix2 r j) + ∑ c : Fin 64, ((∑ k, v2 (ix2 r k) * v69 (ix2 k c))
          * ∑ e, v36 (ix2 r e) * (Spec.mask c e * Ideal.ofBits .f32 0x40000000#32)) * v75 (ix2 c j) := by
  pointwise [k0_pay1, k0_pay5]
  simp only [mask_word, mask_real]

variable (m : (ℓ : Loc nD τ sig) → Buf (Elt Ideal) ℓ) (c : Dev nD)

/-- Where each window's block lies at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0])

/-- A block's row is a token. -/
theorem row_lt (t : Fin cfg0.N) (r : Fin 2048) : t.val * 2048 + r.val < 16384 := by
  have : t.val < 8 := t.isLt
  omega

/-- The token of row `r` of block `t`. -/
def row (t : Fin cfg0.N) (r : Fin 2048) : Fin 16384 := ⟨t.val * 2048 + r.val, row_lt t r⟩

/-- The block of tokens. -/
theorem read_x (t : Fin cfg0.N) (r : Fin 2048) (k : Fin 768) :
    iblk m c 0 t (ix2 r k) = Spec.flat (m (c, Proc.tc.devRef main_arg0)) (row t r) k := by
  have h : iblk m c 0 t (ix2 r k) = V m c main_v0 (ix2 (row t r) k) := by
    blk_ext [iblk, idx t, row]
  rw [h]
  entry_read
  pointwise
  rfl

/-- The base matrix. -/
theorem read_Wb (t : Fin cfg0.N) (k : Fin 768) (j : Fin 768) :
    iblk m c 1 t (ix2 k j) = m (c, Proc.tc.devRef main_arg1) (ix2 k j) := by
  have h : iblk m c 1 t (ix2 k j) = V m c main_arg1 (ix2 k j) := by
    blk_ext [iblk, idx t]
  rw [h]
  entry_read
  rfl

/-- The base bias. -/
theorem read_bb (t : Fin cfg0.N) (j : Fin 768) :
    iblk m c 2 t (ix2 0 j) = m (c, Proc.tc.devRef main_arg2) (ix1 j) := by
  have h : iblk m c 2 t (ix2 0 j) = V m c main_v4 (ix2 0 j) := by
    blk_ext [iblk, idx t]
  rw [h]
  entry_read
  pointwise

/-- The three matrices side by side. -/
theorem read_cat (t : Fin cfg0.N) (k : Fin 768) (n : Fin 73) : iblk m c 3 t (ix2 k n) = V m c main_v3 (ix2 k n) := by
  blk_ext [iblk, idx t]

/-- What the host lays side by side. -/
theorem cat_eq : V m c main_v3 = concatenate S768x73 1 [⟨S768x64, V m c main_v2⟩, ⟨S768x8, m (c, Proc.tc.devRef main_arg3)⟩,
    ⟨S768x1, m (c, Proc.tc.devRef main_arg4)⟩] concatenates_S768x64_S768x8_S768x1_S768x73_d1 := rfl

/-- The experts' input matrices, the first 64 columns. -/
theorem read_A (t : Fin cfg0.N) (k : Fin 768) (n : Fin 64) :
    View.ld (iblk m c 3 t) r0_5 (ix2 k n)
      = m (c, Proc.tc.devRef main_arg6) (ix3 ⟨n.val / 8, by omega⟩ k ⟨n.val % 8, by omega⟩) := by
  have h : View.ld (iblk m c 3 t) r0_5 (ix2 k n) = iblk m c 3 t (ix2 k ⟨n.val, by omega⟩) := by
    pointwise
  rw [h, read_cat, cat_eq]
  pointwise
  entry_read
  pointwise

/-- The gate matrix, the next eight columns. -/
theorem read_Wg (t : Fin cfg0.N) (k : Fin 768) (e : Fin 8) :
    View.ld (iblk m c 3 t) r0_3 (ix2 k ⟨e.val, by omega⟩) = m (c, Proc.tc.devRef main_arg3) (ix2 k e) := by
  have h : View.ld (iblk m c 3 t) r0_3 (ix2 k ⟨e.val, by omega⟩) = iblk m c 3 t (ix2 k ⟨64 + e.val, by omega⟩) := by
    pointwise
  rw [h, read_cat, cat_eq]
  pointwise

/-- The threshold matrix, the last column. -/
theorem read_Wt (t : Fin cfg0.N) (k : Fin 768) :
    View.ld (iblk m c 3 t) r0_3 (ix2 k 8) = m (c, Proc.tc.devRef main_arg4) (ix2 k 0) := by
  have h : View.ld (iblk m c 3 t) r0_3 (ix2 k 8) = iblk m c 3 t (ix2 k 72) := by
    pointwise
  rw [h, read_cat, cat_eq]
  pointwise

/-- The threshold bias. -/
theorem read_bt (t : Fin cfg0.N) : iblk m c 4 t (ix2 0 0) = m (c, Proc.tc.devRef main_arg5) (ix1 0) := by
  have h : iblk m c 4 t (ix2 0 0) = V m c main_v5 (ix2 0 0) := by
    blk_ext [iblk, idx t]
  rw [h]
  entry_read
  pointwise

/-- The experts' output matrices, stacked. -/
theorem read_Bm (t : Fin cfg0.N) (n : Fin 64) (j : Fin 768) :
    iblk m c 5 t (ix2 n j) = m (c, Proc.tc.devRef main_arg7) (ix3 ⟨n.val / 8, by omega⟩ ⟨n.val % 8, by omega⟩ j) := by
  have h : iblk m c 5 t (ix2 n j) = V m c main_v6 (ix2 n j) := by
    blk_ext [iblk, idx t]
  rw [h]
  entry_read
  pointwise

/-- The kernel's result over its argument arrays. -/
noncomputable def result : S16384x768.Idx → EReal := fun i =>
  Spec.kOut (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (i 0) (i 1)

/-- The result array after the last grid point. -/
theorem array : (dats m 0 c).arrAt 6 cfg0.N = result m c := by
  refine (dats m 0 c).arrAt_eq_of_covers 6 _ (by decide +kernel) fun t hf y => ?_
  blk_simp
  rw [after0_6]
  frame_out
  have he : ∀ (r : Fin 2048) (j : Fin 768), ((View.whole main_v7).slice (win0_6.rect t)).emb (ix2 r j) = ix2 (row t r) j := by
    intro r j
    blk_ext [idx t, row]
  obtain ⟨r, j, rfl⟩ : ∃ (r : Fin 2048) (j : Fin 768), y = ix2 r j := ⟨y 0, y 1, by funext a; fin_cases a <;> rfl⟩
  rw [he, out_at, base_at]
  simp only [gate_at, tokens_at, read_x, read_Wb, read_bb, read_A, read_Wg, read_Wt, read_bt, read_Bm]
  rfl

end Cert.Proof.KerValue

end
-- ==== Proof.RefValue.lean ====
module

public import proofs.«01_k».proof.Proof.Gen.ReferenceIdeal.Run
public import proofs.«01_k».proof.Proof.Gen.ReferenceIdeal.Read
public import proofs.«01_k».proof.Proof.Spec
public import Idealize.ShloMosaic.Lib.Claim
public import Idealize.ShloMosaic.Lib.Quiescent

/-! The reference's result array, entry by entry, and its run with the semaphore counters. -/

@[expose] public section

set_option maxRecDepth 16384

namespace Cert.Proof.RefValue

open Idealize.ShloMosaic Cert.ReferenceIdeal Cert.ReferenceIdeal.Gen Cert.ReferenceIdeal.Read Idealize.ShloMosaic.TcCoe
open Idealize.SL.Sem

variable (x0 : (⟨S2x8192x768, .f32⟩ : BufTy).Contents (Elt Ideal)) (x1 : (⟨S768x768, .f32⟩ : BufTy).Contents (Elt Ideal))
  (x2 : (⟨S768, .f32⟩ : BufTy).Contents (Elt Ideal)) (x3 : (⟨S768x8, .f32⟩ : BufTy).Contents (Elt Ideal))
  (x4 : (⟨S768x1, .f32⟩ : BufTy).Contents (Elt Ideal)) (x5 : (⟨S1, .f32⟩ : BufTy).Contents (Elt Ideal))
  (x6 : (⟨S8x768x8, .f32⟩ : BufTy).Contents (Elt Ideal)) (x7 : (⟨S8x8x768, .f32⟩ : BufTy).Contents (Elt Ideal))

/-- The flattened tokens. -/
theorem flat_at (t : Fin 16384) (k : Fin 768) : val_main_v0 x0 (ix2 t k) = Spec.flat x0 t k := by
  pointwise [val_main_v0]
  rfl

/-- The gate logits. -/
theorem logit_at (t : Fin 16384) (e : Fin 8) : val_main_v5 x0 x3 (ix2 t e) = Spec.logit x0 x3 t e := by
  pointwise [val_main_v5]
  simp only [flat_at]
  rfl

/-- The softmax probabilities. -/
theorem prob_at (t : Fin 16384) (e : Fin 8) : val_main_v16 x0 x3 (ix2 t e) = Gate.prob (Spec.logit x0 x3 t) e := by
  pointwise [val_main_v16, val_main_v12, val_main_v11, val_main_v10, val_main_v9, val_main_v8, val_main_v7, val_main_v6,
    val_main_v13, val_main_v14, val_main_v15, val_main_cst, val_main_cst_0, val_main_cst_1]
  simp only [logit_at]
  rfl

/-- The threshold before its factor. -/
theorem sigm_at (t : Fin 16384) : val_main_v26 x0 x4 x5 (ix2 t 0) = Gate.sigm (Spec.thr x0 x4 x5 t) := by
  pointwise [val_main_v26, val_main_v25, val_main_v24, val_main_v23, val_main_v22, val_main_v21, val_main_v20,
    val_main_v19, val_main_v18, val_main_v17]
  simp only [flat_at]
  rfl

/-- The probabilities less the threshold. -/
theorem adapted_at (t : Fin 16384) (e : Fin 8) :
    val_main_v30 x0 x3 x4 x5 (ix2 t e) = Gate.adapted (Spec.logit x0 x3 t) (Spec.thr x0 x4 x5 t) e := by
  pointwise [val_main_v30, val_main_v29, val_main_v28, val_main_v27]
  simp only [prob_at, sigm_at]
  rfl

/-- The gates. -/
theorem gate_at (t : Fin 16384) (e : Fin 8) :
    val_main_v42 x0 x3 x4 x5 (ix2 t e) = Gate.rGate (Spec.logit x0 x3 t) (Spec.thr x0 x4 x5 t) e := by
  pointwise [val_main_v42, val_main_v41, val_main_v40, val_main_v39, val_main_v38, val_main_v37, val_main_v36,
    val_main_v35, val_main_v34, val_main_v33, val_main_v32, val_main_v31]
  simp only [adapted_at]
  rfl

/-- The result. -/
theorem out_at (t : Fin 16384) (j : Fin 768) :
    val_main_v49 x0 x1 x2 x3 x4 x5 x6 x7 (ix2 t j) = Spec.rOut x0 x1 x2 x3 x4 x5 x6 x7 t j := by
  pointwise [val_main_v49, val_main_v48, val_main_v47, val_main_v46, val_main_v45, val_main_v44, val_main_v43,
    val_main_v4, val_main_v3, val_main_v2, val_main_v1]
  simp only [gate_at, flat_at]
  rfl

/-- The reference declares no semaphore, so its run ends with every counter at zero. -/
theorem quiescent (m : (ℓ : Loc nD τ sig) → Buf (Elt Ideal) ℓ) (ρ : Dev nD → PrngReg) :
    θ_run defs (onTc (τ := τ) (main (F := Ideal))) ⟨m, fun _ => 0, ρ⟩ (fun r => r.2.sem = fun _ => 0) :=
  θ_run_mono (Cert.ReferenceIdeal.Value.run m ρ) fun r _ => sem_eq_zero_of_no_sems (by decide) r.2

end Cert.Proof.RefValue

end
-- ==== Proof.Gap.lean ====
module

public import proofs.«01_k».proof.Proof.Gen.Pre_moderate
public import proofs.«01_k».proof.Proof.Spec

/-! The precondition, read at a token. -/

@[expose] public section

set_option maxRecDepth 16384

namespace Cert.Proof.Gap

open Idealize.ShloMosaic Cert.Pre_moderate Cert.Pre_moderate.Gen

variable (x0 : FVec Ideal S2x8192x768 .f32) (x1 : FVec Ideal S768x768 .f32) (x2 : FVec Ideal S768 .f32)
  (x3 : FVec Ideal S768x8 .f32) (x4 : FVec Ideal S768x1 .f32) (x5 : FVec Ideal S1 .f32)
  (x6 : FVec Ideal S8x768x8 .f32) (x7 : FVec Ideal S8x8x768 .f32)

/-- The precondition's word at token `t` compares the token's largest gate logit with the larger of its threshold logit
and zero, less 68. -/
theorem word_at (t : Fin 16384) :
    fn x0 x1 x2 x3 x4 x5 x6 x7 (ix1 t)
      = BitVec.ofBool (decide (max (Spec.thr x0 x4 x5 t) 0 - ((68 : ℝ) : EReal) ≤ Gate.top (Spec.logit x0 x3 t))) := by
  rw [← Ideal.ofBits_zero_f32, ← Consts.margin]
  pointwise [fn]
  rfl

/-- Under the precondition the gap holds at every token. -/
theorem gap_at (h : fn x0 x1 x2 x3 x4 x5 x6 x7 = fun _ => 1#1) (t : Fin 16384) :
    max (Spec.thr x0 x4 x5 t) 0 - ((68 : ℝ) : EReal) ≤ Gate.top (Spec.logit x0 x3 t) := by
  have h1 := congrFun h (ix1 t)
  rw [word_at] at h1
  by_contra hn
  rw [decide_eq_false hn] at h1
  exact absurd h1 (by decide)

end Cert.Proof.Gap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_moderate
public import proofs.«01_k».proof.Proof.KerValue
public import proofs.«01_k».proof.Proof.RefValue
public import proofs.«01_k».proof.Proof.Gap
public import Idealize.ShloMosaic.Lib.Claim
public import Idealize.ShloMosaic.Adequacy
public import Idealize.ShloMosaic.Init

@[expose] public section

noncomputable section

namespace Cert.Proof

open Idealize.ShloMosaic Idealize.SL.Sem

/-- The kernel leaves its arguments unchanged and every counter at zero. -/
theorem frame_kernel : Cert.quiescent_Kernel (hKernel := Cert.Kernel.Gen.facts) := fun m g _ => Cert.Kernel.Gen.frame m g

/-- So does its idealization. -/
theorem frame_ideal : Cert.quiescent_KernelIdeal (hKernelIdeal := Cert.KernelIdeal.Gen.facts) :=
  fun m g _ => Cert.KernelIdeal.Gen.frame m g

/-- So it does under the precondition. -/
theorem frame_ideal_moderate :
    Cert.quiescent_KernelIdeal_pre_moderate (hKernelIdeal := Cert.KernelIdeal.Gen.facts) (hPre_moderate := Cert.Pre_moderate.Gen.facts) :=
  fun m g _ => Cert.KernelIdeal.Gen.frame m g

/-- So does the reference. -/
theorem frame_reference : Cert.quiescent_ReferenceIdeal (hReferenceIdeal := Cert.ReferenceIdeal.Gen.facts) := fun m g _ =>
  θ_run_mono (θ_run_and (Cert.ReferenceIdeal.Value.run m g) (RefValue.quiescent m g)) fun _ h => ⟨fun c => (h.1 c).2, h.2⟩

/-- So it does under the precondition. -/
theorem frame_reference_moderate :
    Cert.quiescent_ReferenceIdeal_pre_moderate (hReferenceIdeal := Cert.ReferenceIdeal.Gen.facts) (hPre_moderate := Cert.Pre_moderate.Gen.facts) :=
  fun m g _ => frame_reference m g trivial

/-- The reference's result is the kernel's, from memories that agree on the arguments and satisfy the precondition. -/
theorem result_eq (m : (ℓ : Loc Cert.KernelIdeal.nD Cert.KernelIdeal.τ Cert.KernelIdeal.sig) → Buf (Elt Ideal) ℓ)
    (hpre : Cert.Pre_KernelIdeal_moderate (hPre_moderate := Cert.Pre_moderate.Gen.facts) m) (c : Dev Cert.KernelIdeal.nD) :
    Cert.ReferenceIdeal.Read.val_main_v49
        (m (c, Proc.tc.devRef Cert.KernelIdeal.main_arg0)) (m (c, Proc.tc.devRef Cert.KernelIdeal.main_arg1))
        (m (c, Proc.tc.devRef Cert.KernelIdeal.main_arg2)) (m (c, Proc.tc.devRef Cert.KernelIdeal.main_arg3))
        (m (c, Proc.tc.devRef Cert.KernelIdeal.main_arg4)) (m (c, Proc.tc.devRef Cert.KernelIdeal.main_arg5))
        (m (c, Proc.tc.devRef Cert.KernelIdeal.main_arg6)) (m (c, Proc.tc.devRef Cert.KernelIdeal.main_arg7))
      = KerValue.result m c := by
  funext i
  obtain ⟨t, j, rfl⟩ : ∃ (t : Fin 16384) (j : Fin 768), i = ix2 t j := ⟨i 0, i 1, by funext a; fin_cases a <;> rfl⟩
  rw [RefValue.out_at]
  exact (Spec.out_eq _ _ _ _ _ _ _ _ t j (Gap.gap_at _ _ _ _ _ _ _ _ (hpre c) t)).symm

/-- The two programs end with equal results. -/
theorem equal_results :
    Cert.algebraic_KernelIdeal_ReferenceIdeal_pre_moderate (hKernelIdeal := Cert.KernelIdeal.Gen.facts)
      (hReferenceIdeal := Cert.ReferenceIdeal.Gen.facts) (hPre_moderate := Cert.Pre_moderate.Gen.facts) := by
  intro m g m' g' hpre hagree
  refine ⟨fun c => KerValue.result m c, ?_, ?_⟩
  · exact θ_run_mono (Cert.KernelIdeal.Value.run_blocks m g) fun _ h c => ⟨(h c).1.trans (KerValue.array m c), (h c).2⟩
  · refine θ_run_mono (Cert.ReferenceIdeal.Value.run m' g') fun _ h c => ⟨(h c).1.trans ?_, (h c).2⟩
    obtain ⟨h0, h1, h2, h3, h4, h5, h6, h7⟩ := hagree c
    rw [Cert.ReferenceIdeal.Read.val_main_v49_eq, h0, h1, h2, h3, h4, h5, h6, h7]
    exact result_eq m hpre c

/-- Everything the certificate claims. -/
theorem claim : Cert.Claim :=
  ⟨Cert.Kernel.Gen.facts, Cert.KernelIdeal.Gen.facts, Cert.ReferenceIdeal.Gen.facts, Cert.Pre_moderate.Gen.facts,
    frame_kernel, frame_ideal, frame_ideal_moderate, frame_reference, frame_reference_moderate, trivial, equal_results⟩

end Cert.Proof

end
